-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x4 : Shape := ⟨2, ![1024, 4]⟩
abbrev S4 : Shape := ⟨1, ![4]⟩
abbrev S1024x81 : Shape := ⟨2, ![1024, 81]⟩
abbrev S81 : Shape := ⟨1, ![81]⟩
abbrev S1024x80 : Shape := ⟨2, ![1024, 80]⟩
abbrev S80 : Shape := ⟨1, ![80]⟩
abbrev S1x4 : Shape := ⟨2, ![1, 4]⟩
abbrev S1x81 : Shape := ⟨2, ![1, 81]⟩
abbrev S1x80 : Shape := ⟨2, ![1, 80]⟩
abbrev S4096x81 : Shape := ⟨2, ![4096, 81]⟩
abbrev S4096x324 : Shape := ⟨2, ![4096, 324]⟩
abbrev S1024x1024 : Shape := ⟨2, ![1024, 1024]⟩
abbrev S1024x324 : Shape := ⟨2, ![1024, 324]⟩
abbrev S2 : Shape := ⟨1, ![2]⟩
abbrev S1024 : Shape := ⟨1, ![1024]⟩
abbrev S1024x1 : Shape := ⟨2, ![1024, 1]⟩
abbrev S1024x124 : Shape := ⟨2, ![1024, 124]⟩
abbrev S1024x128 : Shape := ⟨2, ![1024, 128]⟩
abbrev S1024x128x1 : Shape := ⟨3, ![1024, 128, 1]⟩
abbrev S1024x68 : Shape := ⟨2, ![1024, 68]⟩
abbrev S1x1024x80 : Shape := ⟨3, ![1, 1024, 80]⟩
abbrev S1 : Shape := ⟨1, ![1]⟩
abbrev S1x1x1 : Shape := ⟨3, ![1, 1, 1]⟩

abbrev nBuf : Space → Nat
  | .hbm => 12
  | .vmem => 11
  | .smem => 1
  | _ => 0

abbrev bufTy : (tb : Table) → Fin (tcTables nBuf tb) → BufTy
  | .hbm, ⟨0, _⟩ => ⟨S4096x1024, .f32⟩
  | .hbm, ⟨1, _⟩ => ⟨S1024x4, .f32⟩
  | .hbm, ⟨2, _⟩ => ⟨S4, .f32⟩
  | .hbm, ⟨3, _⟩ => ⟨S1024x81, .f32⟩
  | .hbm, ⟨4, _⟩ => ⟨S81, .f32⟩
  | .hbm, ⟨5, _⟩ => ⟨S1024x80, .f32⟩
  | .hbm, ⟨6, _⟩ => ⟨S80, .f32⟩
  | .hbm, ⟨7, _⟩ => ⟨S1x4, .f32⟩
  | .hbm, ⟨8, _⟩ => ⟨S1x81, .f32⟩
  | .hbm, ⟨9, _⟩ => ⟨S1x80, .f32⟩
  | .hbm, ⟨10, _⟩ => ⟨S4096x81, .f32⟩
  | .hbm, ⟨11, _⟩ => ⟨S4096x324, .f32⟩
  | .local _ .vmem, ⟨0, _⟩ => ⟨S1024x1024, .f32⟩
  | .local _ .vmem, ⟨1, _⟩ => ⟨S1024x1024, .f32⟩
  | .local _ .vmem, ⟨2, _⟩ => ⟨S1024x4, .f32⟩
  | .local _ .vmem, ⟨3, _⟩ => ⟨S1x4, .f32⟩
  | .local _ .vmem, ⟨4, _⟩ => ⟨S1024x81, .f32⟩
  | .local _ .vmem, ⟨5, _⟩ => ⟨S1x81, .f32⟩
  | .local _ .vmem, ⟨6, _⟩ => ⟨S1024x80, .f32⟩
  | .local _ .vmem, ⟨7, _⟩ => ⟨S1x80, .f32⟩
  | .local _ .vmem, ⟨8, _⟩ => ⟨S4096x81, .f32⟩
  | .local _ .vmem, ⟨9, _⟩ => ⟨S1024x324, .f32⟩
  | .local _ .vmem, ⟨10, _⟩ => ⟨S1024x324, .f32⟩
  | .local _ .smem, ⟨0, _⟩ => ⟨S2, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v83 : BitVec 32 := Scalar.muli arg0 c1024_i32
  let v84 : Index := Scalar.indexCast v83
  let c0_29 : Index := 0#32
  ![v84.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x81 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x81 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x81 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x324 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x1024 : Shape := ⟨2, ![4096, 1024]⟩
abbrev S1024x4 : Shape := ⟨2, ![1024, 4]⟩
abbrev S4 : Shape := ⟨1, ![4]⟩
abbrev S1024x81 : Shape := ⟨2, ![1024, 81]⟩
abbrev S81 : Shape := ⟨1, ![81]⟩
abbrev S1024x80 : Shape := ⟨2, ![1024, 80]⟩
abbrev S80 : Shape := ⟨1, ![80]⟩
abbrev S_ : Shape := ⟨0, ![]⟩
abbrev S4096 : Shape := ⟨1, ![4096]⟩
abbrev S4096x1 : Shape := ⟨2, ![4096, 1]⟩
abbrev S4096x4 : Shape := ⟨2, ![4096, 4]⟩
abbrev S1x4 : Shape := ⟨2, ![1, 4]⟩
abbrev S1x4096x1x4 : Shape := ⟨4, ![1, 4096, 1, 4]⟩
abbrev S1x4096x81x4 : Shape := ⟨4, ![1, 4096, 81, 4]⟩
abbrev S4096x324 : Shape := ⟨2, ![4096, 324]⟩
abbrev S4096x81 : Shape := ⟨2, ![4096, 81]⟩
abbrev S1x81 : Shape := ⟨2, ![1, 81]⟩
abbrev S4096x80 : Shape := ⟨2, ![4096, 80]⟩
abbrev S1x80 : Shape := ⟨2, ![1, 80]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4, .f32⟩
  | .hbm, ⟨2, _⟩ => ⟨S4, .f32⟩
  | .hbm, ⟨3, _⟩ => ⟨S1024x81, .f32⟩
  | .hbm, ⟨4, _⟩ => ⟨S81, .f32⟩
  | .hbm, ⟨5, _⟩ => ⟨S1024x80, .f32⟩
  | .hbm, ⟨6, _⟩ => ⟨S80, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x4, .f32⟩
  | .hbm, ⟨18, _⟩ => ⟨S1x4, .f32⟩
  | .hbm, ⟨19, _⟩ => ⟨S4096x4, .f32⟩
  | .hbm, ⟨20, _⟩ => ⟨S4096x4, .f32⟩
  | .hbm, ⟨21, _⟩ => ⟨S1x4096x1x4, .f32⟩
  | .hbm, ⟨22, _⟩ => ⟨S1x4096x81x4, .f32⟩
  | .hbm, ⟨23, _⟩ => ⟨S4096x324, .f32⟩
  | .hbm, ⟨24, _⟩ => ⟨S4096x81, .f32⟩
  | .hbm, ⟨25, _⟩ => ⟨S1x81, .f32⟩
  | .hbm, ⟨26, _⟩ => ⟨S4096x81, .f32⟩
  | .hbm, ⟨27, _⟩ => ⟨S4096x81, .f32⟩
  | .hbm, ⟨28, _⟩ => ⟨S4096x80, .f32⟩
  | .hbm, ⟨29, _⟩ => ⟨S1x80, .f32⟩
  | .hbm, ⟨30, _⟩ => ⟨S4096x80, .f32⟩
  | .hbm, ⟨31, _⟩ => ⟨S4096x80, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x81, .i32⟩
  | .hbm, ⟨37, _⟩ => ⟨S_, .f32⟩
  | .hbm, ⟨38, _⟩ => ⟨S_, .i32⟩
  | .hbm, ⟨39, _⟩ => ⟨S4096, .f32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096x1, .f32⟩
  | .hbm, ⟨48, _⟩ => ⟨S4096x81, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_call1_v0 : Ref sig .tc := ⟨.hbm, 36, rfl⟩
abbrev main_call1_cst : Ref sig .tc := ⟨.hbm, 37, rfl⟩
abbrev main_call1_c : Ref sig .tc := ⟨.hbm, 38, rfl⟩
abbrev main_call1_v1_0 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_call2_v0 : Ref sig .tc := ⟨.hbm, 44, rfl⟩
abbrev main_call2_v1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Proof.Body.lean ====
/-
What one grid point of the kernel does to the memory it works on.

A point reads its block of 1024 rows and the six weight and bias arrays, and writes three places: the block of boxes
(whole), the pair of running extremes in scalar memory, and the array of scores, which stays in place from one point to
the next and of which a point writes its own band of 1024 rows; the last point then rewrites that array's column 0.
-/
module

public import proofs.«01_k».proof.Proof.Gen.KernelIdeal.Frame
public import proofs.«01_k».proof.Proof.Gen.KernelIdeal.Skeleton
public import Idealize.ShloMosaic.Lib.VecWindow
public import Idealize.ShloMosaic.Lib.CellWrites

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The values a point computes -/

/-- The block of boxes a point writes, from its rows and the box weights and bias. -/
def boxes (x0 : Vec F S1024x1024 .f32) (x1 : Vec F S1024x4 .f32) (x2 : Vec F S1x4 .f32) : Vec F S1024x324 .f32 :=
  k0_pay12 (k0_pay8 x0 x1 x2) (Scalar.select (Scalar.cmpi .eq 4#32 0#32) 1#32 4#32) k0_pay9 k0_pay10 k0_pay11

/-- The band of scores a point writes: the flag column beside the 80 class scores. -/
def band (x0 : Vec F S1024x1024 .f32) (x3 : Vec F S1024x81 .f32) (x4 : Vec F S1x81 .f32) (x5 : Vec F S1024x80 .f32)
    (x6 : Vec F S1x80 .f32) : Vec F S1024x81 .f32 :=
  k0_pay13 (k0_pay6 x0 x3 x4) (k0_pay7 x0 x5 x6)

/-- Scores `X` with the band `P` of grid point `i` written over rows `1024 i` to `1024 i + 1023`. -/
def putBand (i : grid0.Coords) (P : Vec F S1024x81 .f32) (X : Vec F S4096x81 .f32) : Vec F S4096x81 .f32 :=
  VecWindow.put X ![1024 * (i 0).val, 0] S1024x81.size P

/-- A pair of words in scalar memory. -/
def pair (a b : F .f32) : Vec F S2 .f32 := fun j => if (j 0).val = 1 then b else a

/-- One word of the pair. -/
def word (xs : Vec F S2 .f32) (k : Fin 2) : F .f32 := xs (fun a => ⟨k.val, by fin_cases a; exact k.isLt⟩)

/-- Word 0 of a pair is its first. -/
theorem word_pair₀ (a b : F .f32) : word (pair a b) 0 = a := rfl

/-- Word 1 of a pair is its second. -/
theorem word_pair₁ (a b : F .f32) : word (pair a b) 1 = b := rfl

/-- The running extremes after the first point: those of its own class scores. -/
def extremes₀ (yc : FVec F S1024x80 .f32) : Vec F S2 .f32 := pair (k0_pay1 yc) (k0_pay2 yc)

/-- The running extremes after a later point: those before it, joined with those of its own class scores. -/
def extremes (yc : FVec F S1024x80 .f32) (xs : Vec F S2 .f32) : Vec F S2 .f32 :=
  pair (k0_pay3 yc (word xs 0)) (k0_pay4 yc (word xs 1))

/-! ## Which branch a point takes -/

/-- The branch of the first point. -/
abbrev isFirst (i : grid0.Coords) : Prop := (Scalar.cmpi .ne (Scalar.extui (Scalar.cmpi .eq (BitVec.ofNat 32 (i 0).val) 0#32)) 0#32) = 1#1
/-- The branch of the points after the first. -/
abbrev isLater (i : grid0.Coords) : Prop := (Scalar.cmpi .ne (Scalar.extui (Scalar.cmpi .sgt (BitVec.ofNat 32 (i 0).val) 0#32)) 0#32) = 1#1
/-- The branch of the last point. -/
abbrev isLast (i : grid0.Coords) : Prop := (Scalar.cmpi .ne (Scalar.extui (Scalar.cmpi .eq (BitVec.ofNat 32 (i 0).val) 3#32)) 0#32) = 1#1

/-- A load of word 0 of the pair. -/
theorem load_word₀ (arg : Memref sig .tc .smem S2 .f32) (f : arg.view.ty.Contents (Elt F)) (X : Vec F S2 .f32)
    (h : arg.view.read (Elt F) f = X) (x : S1.Idx) :
    arg.view.readAt (Elt F) (Rect.unit (s := S2) ![0] S1.size inb_S2_S1_0).toLoadRect f x = word X 0 := by
  subst h
  exact congrArg (arg.view.read (Elt F) f) (funext fun a => Fin.ext (by
    fin_cases a
    have : (x 0).val < 1 := (x 0).isLt
    show 0 + 1 * (x 0).val = 0
    omega))

/-- A load of word 1 of the pair. -/
theorem load_word₁ (arg : Memref sig .tc .smem S2 .f32) (f : arg.view.ty.Contents (Elt F)) (X : Vec F S2 .f32)
    (h : arg.view.read (Elt F) f = X) (x : S1.Idx) :
    arg.view.readAt (Elt F) (Rect.unit (s := S2) ![1] S1.size inb_S2_S1_1).toLoadRect f x = word X 1 := by
  subst h
  exact congrArg (arg.view.read (Elt F) f) (funext fun a => Fin.ext (by
    fin_cases a
    have : (x 0).val < 1 := (x 0).isLt
    show 1 + 1 * (x 0).val = 1
    omega))

/-- The running extremes a point leaves. -/
def extremesAfter (i : grid0.Coords) (yc : FVec F S1024x80 .f32) (xs : Vec F S2 .f32) : Vec F S2 .f32 :=
  if isFirst i then extremes₀ yc else extremes yc xs

/-- The scores a point leaves: its band written and, by the last point, column 0 then replaced by the extremes `e`. -/
def scoresAfter (i : grid0.Coords) (P : Vec F S1024x81 .f32) (e : Vec F S2 .f32) (X : Vec F S4096x81 .f32) : Vec F S4096x81 .f32 :=
  if isLast i then k0_pay5 (word e 0) (word e 1) (putBand i P X) else putBand i P X

/-- A load of a whole buffer reads its contents. -/
theorem load_whole {sp : Space} {S : Shape} {e : EltTy} (arg : Memref sig .tc sp S e) (h : arg.IsWhole) (x : S.Idx → Elt F e)
    {off : Fin S.rank → ℕ} (inb : ∀ a, off a + S.size a ≤ S.size a) :
    arg.view.readAt (Elt F) (Rect.unit off S.size inb).toLoadRect (h.unread x) = x :=
  (View.readAt_full _ _ inb).trans (h.read_unread x)

/-- The scores' buffer after a store of a band over it. -/
theorem read_band (i : grid0.Coords) (arg : Memref sig .tc .vmem S4096x81 .f32) (h : arg.IsWhole) (X : Vec F S4096x81 .f32)
    (P P' : Vec F S1024x81 .f32) (e : P = P') :
    arg.view.read (Elt F) (arg.view.writes (Elt F) (h.unread X) [⟨Rect.unit (k0_off1 i) S1024x81.size (k0_off1_inb i), P⟩])
      = putBand i P' X := by
  subst e
  rw [View.read_writes_cons_put _ _ _ _ _ (k0_off1_eq i), View.writes_nil, h.read_unread]
  rfl

/-- The pair of words in scalar memory after a store of each. -/
theorem read_pair (arg : Memref sig .tc .smem S2 .f32) (f : arg.view.ty.Contents (Elt F)) (a b a' b' : F .f32) (ea : a = a') (eb : b = b') :
    arg.view.read (Elt F) (arg.view.writes (Elt F) f
        [⟨Rect.unit ![1] ![1] inb_S2_S1_1, fun _ => b⟩, ⟨Rect.unit ![0] ![1] inb_S2_S1_0, fun _ => a⟩])
      = pair a' b' := by
  subst ea eb
  funext j
  rw [View.read_writes_cons_cell, View.read_writes_cons_cell]
  have hj : (j 0).val < 2 := (j 0).isLt
  unfold pair
  by_cases h : (j 0).val = 1
  · exact (if_pos h).trans (if_pos h).symm
  · exact ((if_neg h).trans (if_pos (show (j 0).val = 0 by omega))).trans (if_neg h).symm

set_option maxHeartbeats 4000000 in
/-- The body of the kernel at grid point `i`, on whole buffers: the inputs `x0` to `x6` are left as they are, the scores
    `d7` become `scoresAfter`, the box block becomes `boxes` whatever it held, and the pair `xs` becomes `extremesAfter`. -/
theorem run (c : Dev nD) (i : grid0.Coords)
    (arg1 : Memref sig .tc .vmem S1024x1024 .f32) (harg1 : arg1.IsWhole) (arg2 : Memref sig .tc .vmem S1024x4 .f32) (harg2 : arg2.IsWhole)
    (arg3 : Memref sig .tc .vmem S1x4 .f32) (harg3 : arg3.IsWhole) (arg4 : Memref sig .tc .vmem S1024x81 .f32) (harg4 : arg4.IsWhole)
    (arg5 : Memref sig .tc .vmem S1x81 .f32) (harg5 : arg5.IsWhole) (arg6 : Memref sig .tc .vmem S1024x80 .f32) (harg6 : arg6.IsWhole)
    (arg7 : Memref sig .tc .vmem S1x80 .f32) (harg7 : arg7.IsWhole) (arg8 : Memref sig .tc .vmem S4096x81 .f32) (harg8 : arg8.IsWhole)
    (arg9 : Memref sig .tc .vmem S1024x324 .f32) (harg9 : arg9.IsWhole) (arg10 : Memref sig .tc .smem S2 .f32) (harg10 : arg10.IsWhole)
    (x0 : Vec F S1024x1024 .f32) (x1 : Vec F S1024x4 .f32) (x2 : Vec F S1x4 .f32) (x3 : Vec F S1024x81 .f32) (x4 : Vec F S1x81 .f32)
    (x5 : Vec F S1024x80 .f32) (x6 : Vec F S1x80 .f32) (d7 : Vec F S4096x81 .f32) (d8 : Vec F S1024x324 .f32) (xs : Vec F S2 .f32)
    (hcase : (isFirst i ∧ ¬ isLater i ∧ ¬ isLast i) ∨ (¬ isFirst i ∧ isLater i ∧ ¬ isLast i) ∨ (¬ isFirst i ∧ isLater i ∧ isLast i)) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare d7 ∗ owns (c : Thread nD τ) arg9 fullShare d8
        ∗ owns (c : Thread nD τ) arg10 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (scoresAfter i (band x0 x3 x4 x5 x6) (extremesAfter i (k0_pay7 x0 x5 x6) xs) d7)
            ∗ owns (c : Thread nD τ) arg9 fullShare (boxes x0 x1 x2) ∗ owns (c : Thread nD τ) arg10 fullShare (extremesAfter i (k0_pay7 x0 x5 x6) xs)) -∗ K ⟨⟩))
      ⊢ wp frame (wpE (defs₀ (F := F)) Variants.none c none) E
          (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg10.eq_unread hfs
  have e0 := load_whole arg1 harg1 x0 inb_S1024x1024_S1024x1024_0_0
  have e1 := load_whole arg2 harg2 x1 inb_S1024x4_S1024x4_0_0
  have e2 := load_whole arg3 harg3 x2 inb_S1x4_S1x4_0_0
  have e3 := load_whole arg4 harg4 x3 inb_S1024x81_S1024x81_0_0
  have e4 := load_whole arg5 harg5 x4 inb_S1x81_S1x81_0_0
  have e5 := load_whole arg6 harg6 x5 inb_S1024x80_S1024x80_0_0
  have e6 := load_whole arg7 harg7 x6 inb_S1x80_S1x80_0_0
  rcases hcase with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      unfold scoresAfter
      first
      | rw [if_neg hc2]
        exact read_band i arg8 harg8 d7 _ _ rfl
      | rw [if_pos hc2, extremesAfter, if_neg hc0]
        refine (View.read_writes_full _ _ _ _ _).trans ?_
        exact congr (congr (congrArg k0_pay5 ((congrArg (k0_pay3 (k0_pay7 x0 x5 x6)) (load_word₀ arg10 _ xs hfs _)).trans (word_pair₀ _ _).symm))
            ((congrArg (k0_pay4 (k0_pay7 x0 x5 x6)) (load_word₁ arg10 _ xs hfs _)).trans (word_pair₁ _ _).symm))
          ((View.readAt_full _ _ _).trans (read_band i arg8 harg8 d7 _ _ rfl))
    isplitl [H8]
    · iexists _; isplitr; swap; · iexact H8
      ipureintro
      exact View.read_writes_full _ _ _ _ _
    iexists _; isplitr; swap; · iexact HS
    ipureintro
    unfold extremesAfter
    first
    | rw [if_pos hc0]
      exact read_pair arg10 _ _ _ _ _ rfl rfl
    | rw [if_neg hc0]
      exact read_pair arg10 _ _ _ _ _ (congrArg (k0_pay3 (k0_pay7 x0 x5 x6)) (load_word₀ arg10 _ xs hfs _))
        (congrArg (k0_pay4 (k0_pay7 x0 x5 x6)) (load_word₁ arg10 _ xs hfs _))

end Cert.Proof.Body

end
-- ==== Proof.Launch.lean ====
/-
The run of the kernel on the whole machine: what each grid point finds and leaves, and what the arrays hold at the end.

The inputs and the block of boxes are known exactly at each point. Of the array of scores, which no point fills alone,
the first point finds anything `X₀`; a point leaves what the points up to it make of some `X₀` (`scoresUpTo`).
-/
module

public import proofs.«01_k».proof.Proof.Body
public import Idealize.ShloMosaic.Lib.Pipeline.DatRel
public import Idealize.ShloMosaic.Lib.Pipeline.ArrRel

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- The class scores of grid point `t`'s rows. -/
def clsAt (c : Dev nD) (t : Fin cfg0.N) : FVec F S1024x80 .f32 := k0_pay7 (iblk m c 0 t) (iblk m c 5 t) (iblk m c 6 t)

/-- The band of scores that grid point `t` writes. -/
def bandAt (c : Dev nD) (t : Fin cfg0.N) : Vec F S1024x81 .f32 :=
  band (iblk m c 0 t) (iblk m c 3 t) (iblk m c 4 t) (iblk m c 5 t) (iblk m c 6 t)

/-- The block of boxes that grid point `t` writes. -/
def boxesAt (c : Dev nD) (t : Fin cfg0.N) : Vec F S1024x324 .f32 := boxes (iblk m c 0 t) (iblk m c 1 t) (iblk m c 2 t)

/-- The running extremes after grid point `n`. -/
def extremesUpTo (c : Dev nD) : (n : ℕ) → n < cfg0.N → Vec F S2 .f32
  | 0, h => extremes₀ (clsAt m c ⟨0, h⟩)
  | n + 1, h => extremes (clsAt m c ⟨n + 1, h⟩) (extremesUpTo c n (Nat.lt_of_succ_lt h))

/-- The scores after grid point `n`, the first point having found `X₀`. -/
def scoresUpTo (c : Dev nD) (X₀ : Vec F S4096x81 .f32) : (n : ℕ) → n < cfg0.N → Vec F S4096x81 .f32
  | 0, h => scoresAfter (grid0.coords ⟨0, h⟩) (bandAt m c ⟨0, h⟩) (extremesUpTo m c 0 h) X₀
  | n + 1, h => scoresAfter (grid0.coords ⟨n + 1, h⟩) (bandAt m c ⟨n + 1, h⟩) (extremesUpTo m c (n + 1) h)
      (scoresUpTo c X₀ n (Nat.lt_of_succ_lt h))

/-- The first point takes the branch of the first point alone. -/
theorem isFirst_iff : ∀ t : Fin cfg0.N, isFirst (grid0.coords t) ↔ t.val = 0 :=
  (by decide +kernel : ∀ t : Fin grid0.N, isFirst (grid0.coords t) ↔ t.val = 0)

/-- The points after the first take the branch of a later point. -/
theorem isLater_iff : ∀ t : Fin cfg0.N, isLater (grid0.coords t) ↔ 1 ≤ t.val :=
  (by decide +kernel : ∀ t : Fin grid0.N, isLater (grid0.coords t) ↔ 1 ≤ t.val)

/-- Point 3 alone takes the branch of the last point. -/
theorem isLast_iff : ∀ t : Fin cfg0.N, isLast (grid0.coords t) ↔ t.val = 3 :=
  (by decide +kernel : ∀ t : Fin grid0.N, isLast (grid0.coords t) ↔ t.val = 3)

/-- A point is the first, or a later one that is not the last, or the last. -/
theorem branches (t : Fin cfg0.N) :
    (isFirst (grid0.coords t) ∧ ¬ isLater (grid0.coords t) ∧ ¬ isLast (grid0.coords t))
      ∨ (¬ isFirst (grid0.coords t) ∧ isLater (grid0.coords t) ∧ ¬ isLast (grid0.coords t))
      ∨ (¬ isFirst (grid0.coords t) ∧ isLater (grid0.coords t) ∧ isLast (grid0.coords t)) := by
  rw [isFirst_iff, isLater_iff, isLast_iff]
  omega

/-! ## The proof data -/

/-- The pair of extremes in scalar memory, as the body is given it. -/
abbrev extremesRef : Memref sig .tc .smem S2 .f32 := Memref.whole cc0_scratch0

/-- What the points share beside the windows: the pair of extremes, at anything before the first point and at
    `extremesUpTo` after each, and the core's generator register. -/
def carried (c : Dev nD) : (n : ℕ) → n ≤ cfg0.N → sProp 𝕄
  | 0, _ => Pipeline.ΦA spec0 c
  | n + 1, hn => iprop(owns (c : Thread nD τ) extremesRef fullShare (extremesUpTo m c n hn) ∗ (∃ r, prngReg c r))

/-- Before the first point the pair of extremes is at some contents. -/
theorem carried_zero (c : Dev nD) :
    (Pipeline.ΦA spec0 c : sProp 𝕄)
      = iprop((∃ d, owns (c : Thread nD τ) extremesRef fullShare d) ∗ (∃ r, prngReg c r)) := by
  unfold Pipeline.ΦA; rw [scopedRest0_eq]; simp only [extremesRef, owns_whole]; try rfl

/-- What each window's staging buffer holds after each point; of the scores (window 7) nothing is said here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, _⟩ => boxesAt m c t
  Φ t := carried m c t.val (Nat.le_of_lt_succ t.isLt)
  q _ := fullShare
  owed _ := 0

/-- The window of which the contents are known only as a relation: the scores. -/
def related : Fin cfg0.W → Bool := fun w => w.val == 7

/-- What a point may leave in the window of the scores. -/
def leavesScores (c : Dev nD) (w : Fin cfg0.W) (t : Fin cfg0.N) (X : (cfg0.win w).block.Idx → Elt F (cfg0.win w).elt) : Prop :=
  match w, X with
  | ⟨7, _⟩, X => ∃ X₀ : Vec F S4096x81 .f32, X = scoresUpTo m c X₀ t.val t.isLt
  | _, _ => True

/-- The proof data of the run. -/
abbrev rdat (c : Dev nD) : RDat τ (Elt F) Unit ℕ (UR sig nD τ) ℕ cfg0 c :=
  (dats m 0 c).toRRel related (leavesScores m c)

theorem A_eq (c : Dev nD) (w : Fin cfg0.W) : (dats m 0 c).A w = V m c (Pipeline.arrRef spec0 w) := by dsimp only [dats]

theorem carried_castSucc (c : Dev nD) (t : Fin cfg0.N) :
    (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_8 (c : Dev nD) (t : Fin cfg0.N) : (dats m 0 c).after 8 t = boxesAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## One point -/

/-- After the first point, a point finds in the window of the scores what the points before it left there. -/
theorem finds_scores (c : Dev nD) (n : ℕ) (h : n + 1 < cfg0.N) (X : Vec F S4096x81 .f32) (hX : (rdat m c).Finds 7 ⟨n + 1, h⟩ X) :
    ∃ X₀ : Vec F S4096x81 .f32, X = scoresUpTo m c X₀ n (Nat.lt_of_succ_lt h) := by
  have hN : cfg0.N = 4 := N_0
  have hf : (cfg0.win 7).flush ⟨n, Nat.lt_of_succ_lt h⟩ ≠ true := fun hf => by
    have := (flush0_7 ⟨n, Nat.lt_of_succ_lt h⟩).mp hf
    have : n % 4 = 3 := this
    omega
  rcases ((rdat m c).finds_of_pos (w := 7) (t := ⟨n + 1, h⟩) rfl (Nat.succ_ne_zero n) X).mp hX with hfl | hL
  · exact absurd hfl hf
  · exact Pipeline.Dat.toRRel_leaves (dats m 0 c) (w := 7) rfl hL

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ Y, ⌜(rdat m c).Finds 7 t Y⌝ ∗ owns (c : Thread nD τ) (win0_7.stage (cfg0.slots t 7)) fullShare Y)
    ∗ (∃ d, owns (c : Thread nD τ) (win0_8.stage (cfg0.slots t 8)) fullShare ((dats m 0 c).before 8 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ X, ⌜leavesScores m c 7 t X⌝ ∗ owns (c : Thread nD τ) (win0_7.stage (cfg0.slots t 7)) fullShare X)
    ∗ owns (c : Thread nD τ) (win0_8.stage (cfg0.slots t 8)) fullShare ((dats m 0 c).after 8 t))

/-- The extremes carried into point `t` may be taken to be some pair `xs` that the point turns into its own, and what the
    window of the scores is found to hold some `Y` that it turns into its own. -/
theorem sound_body (c : Dev nD) (t : Fin cfg0.N) :
    bodyPre m c t ⊢ wp frame (wpE (defs₀ (F := F)) Variants.none c none) Set.univ (bodyAt0 t) (fun _ => bodyPost m c t) := by
  have hcarried : (dats m 0 c).Φ t.castSucc ⊢ iprop((∃ xs, ⌜extremesAfter (grid0.coords t) (clsAt m c t) xs = extremesUpTo m c t.val t.isLt⌝
      ∗ owns (c : Thread nD τ) extremesRef fullShare xs) ∗ (∃ r, prngReg c r)) := by
    rw [carried_castSucc]
    obtain ⟨n, hn⟩ := t
    cases n with
    | zero =>
      show (Pipeline.ΦA spec0 c : sProp 𝕄) ⊢ _
      rw [carried_zero]
      iintro ⟨⟨%d, H⟩, Hg⟩
      isplitl [H]
      · iexists d; isplitr; swap; · iexact H
        ipureintro; exact if_pos ((isFirst_iff _).mpr rfl)
      iexact Hg
    | succ n =>
      show iprop(owns (c : Thread nD τ) extremesRef fullShare (extremesUpTo m c n (Nat.lt_of_succ_lt hn)) ∗ (∃ r, prngReg c r)) ⊢ _
      iintro ⟨H, Hg⟩
      isplitl [H]
      · iexists _; isplitr; swap; · iexact H
        ipureintro; exact if_neg (fun h => Nat.succ_ne_zero n ((isFirst_iff _).mp h))
      iexact Hg
  have hscores : ∀ Y, (rdat m c).Finds 7 t Y →
      leavesScores m c 7 t (scoresAfter (grid0.coords t) (bandAt m c t) (extremesUpTo m c t.val t.isLt) Y) := fun Y hY => by
    obtain ⟨n, hn⟩ := t
    cases n with
    | zero => exact ⟨Y, rfl⟩
    | succ n =>
      obtain ⟨X₀, rfl⟩ := finds_scores m c n hn Y hY
      exact ⟨X₀, rfl⟩
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_8]
  rw [show (dats m 0 c).Φ t.succ = iprop(owns (c : Thread nD τ) extremesRef fullShare (extremesUpTo m c t.val t.isLt) ∗ (∃ r, prngReg c r)) from rfl]
  refine (sep_mono hcarried .rfl).trans ?_
  iintro ⟨⟨⟨%xs, %hxs, HS⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩, ⟨%d8, H8⟩⟩
  iapply (run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Y _ xs (branches t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  rw [show extremesAfter (grid0.coords t) (k0_pay7 (iblk m c 0 t) (iblk m c 5 t) (iblk m c 6 t)) xs = extremesUpTo m c t.val t.isLt from hxs]
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact hscores Y hY
  iexact H8

/-- The body the launch runs at point `t` is the kernel's body on that point's buffers. -/
theorem defs₀_row (t : Fin cfg0.N) :
    defs₀ (F := F) .tc cfg0.body (cfg0.bodyArgs t (cfg0.slots t)) = bodyAt0 t := by
  unfold defs₀; rw [Defs.onTc_tc]

/-- Every point runs to its end from what it is given to what it gives back. -/
theorem body_obligation (c : Dev nD) :
    BodyObligationRel (dats (F := F) m 0 c) (defs₀ (F := F)) Variants.none () Set.univ related (leavesScores m c) := fun t => by
  rw [bigSep_W0, bigSep_W0, defs₀_row]
  exact triple_restated (sound_body m c t) rfl .rfl fun _ => .rfl

/-- What is carried after the last point is given back. -/
theorem carried_out (c : Dev nD) : (dats m 0 c).Φ (Fin.last cfg0.N) ⊢ Pipeline.ΦA spec0 c := by
  rw [show (dats m 0 c).Φ (Fin.last cfg0.N) = carried m c 4 (Nat.le_of_eq N_0.symm) from by
    dsimp only [dats]; congr 1]
  rw [carried_zero]
  show iprop(owns (c : Thread nD τ) extremesRef fullShare _ ∗ (∃ r, prngReg c r)) ⊢ _
  iintro ⟨HS, Hg⟩
  isplitl [HS]
  · iexists _; iexact HS
  iexact Hg

/-! ## The run -/

set_option backward.isDefEq.respectTransparency.types false in
/-- Every execution of the kernel ends, with each array at contents that the proof data allow and every semaphore counter
    at zero. -/
theorem run_main : θ_run defs (onTc (τ := τ) (main (F := F))) (s₀ m ρ)
    (fun r => RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => Idealize.SL.BI.Entails.refl _) (hout := carried_out m)

end Cert.Proof.Body

end
-- ==== Proof.Arrays.lean ====
/-
What the two result arrays hold after the run: each block of boxes is the one that its grid point wrote, and the scores
are the bands of the four points, one under another, with the first column replaced at the last point.
-/
module

public import proofs.«01_k».proof.Proof.Launch
public import Idealize.ShloMosaic.Lib.Pipeline.ValueKit

@[expose] public section

set_option maxRecDepth 16384

noncomputable section

namespace Cert.Proof.Body

open Cert.KernelIdeal Cert.KernelIdeal.Gen
open Idealize.ShloMosaic Idealize.ShloMosaic.TcCoe Idealize.SL.Sem
open Idealize.ShloMosaic.Pipeline (Dat RDat)

variable {F : FTy → Type} [FloatOps F]
variable (m : (ℓ : Loc nD τ sig) → Buf (Elt F) ℓ) (ρ : Dev nD → PrngReg)

/-! ## The scores -/

/-- The grid point that computes row `r`. -/
def pointOf (r : Fin 4096) : Fin cfg0.N := ⟨r.val / 1024, by rw [show cfg0.N = 4 from N_0]; omega⟩

/-- Row `r`'s place in its grid point's block. -/
def rowIn (r : Fin 4096) : Fin 1024 := ⟨r.val % 1024, by omega⟩

/-- The bands of the four points, one under another. -/
def bands (c : Dev nD) : Vec F S4096x81 .f32 := fun j => bandAt m c (pointOf (j 0)) (ix2 (rowIn (j 0)) (j 1))

/-- The boxes of the four points, one block under another. -/
def boxRows (c : Dev nD) : Vec F S4096x324 .f32 := fun j => boxesAt m c (pointOf (j 0)) (ix2 (rowIn (j 0)) (j 1))

/-- `X` with its first `n` bands written. -/
def filled (c : Dev nD) (X : Vec F S4096x81 .f32) (n : ℕ) : Vec F S4096x81 .f32 :=
  fun j => if (j 0).val < 1024 * n then bands m c j else X j

/-- Writing band `t` over an array whose bands below `t` are written leaves the bands up to `t` written. -/
theorem putBand_filled (c : Dev nD) (X : Vec F S4096x81 .f32) (t : Fin cfg0.N) :
    putBand (grid0.coords t) (bandAt m c t) (filled m c X t.val) = filled m c X (t.val + 1) := by
  have ht : t.val < 4 := Nat.lt_of_lt_of_eq t.isLt N_0
  have e0 : (grid0.coords t 0).val = t.val := by
    have e : (grid0.coords t 0).val = t.val / 1 % 4 := Pipeline.Grid.coords_val t 0 (by decide) rfl
    omega
  funext j
  have hj0 : (j 0).val < 4096 := (j 0).isLt
  have hj1 : (j 1).val < 81 := (j 1).isLt
  by_cases h : 1024 * t.val ≤ (j 0).val ∧ (j 0).val < 1024 * t.val + 1024
  · have hall : ∀ a : Fin S4096x81.rank, (![1024 * (grid0.coords t 0).val, 0] : Fin S4096x81.rank → ℕ) a ≤ (j a).val
        ∧ (j a).val < (![1024 * (grid0.coords t 0).val, 0] : Fin S4096x81.rank → ℕ) a + S1024x81.size a := fun a =>
      match a with
      | ⟨0, _⟩ => by
        show 1024 * (grid0.coords t 0).val ≤ (j 0).val ∧ (j 0).val < 1024 * (grid0.coords t 0).val + 1024
        rw [e0]; exact h
      | ⟨1, _⟩ => ⟨Nat.zero_le _, by show (j 1).val < 0 + 81; omega⟩
    refine (dif_pos hall).trans (Eq.trans ?_ (if_pos (show (j 0).val < 1024 * (t.val + 1) by omega)).symm)
    unfold bands
    rw [show pointOf (j 0) = t from Fin.ext (show (j 0).val / 1024 = t.val by omega)]
    refine congrArg (bandAt m c t) (funext fun a => Fin.ext ?_)
    match a with
    | ⟨0, _⟩ =>
      show (j 0).val - 1024 * (grid0.coords t 0).val = (j 0).val % 1024
      rw [e0]; omega
    | ⟨1, _⟩ =>
      show (j 1).val - 0 = (j 1).val
      omega
  · have hall : ¬ ∀ a : Fin S4096x81.rank, (![1024 * (grid0.coords t 0).val, 0] : Fin S4096x81.rank → ℕ) a ≤ (j a).val
        ∧ (j a).val < (![1024 * (grid0.coords t 0).val, 0] : Fin S4096x81.rank → ℕ) a + S1024x81.size a := fun hall => h (by
      have := hall 0
      rw [← e0]; exact this)
    refine (dif_neg hall).trans ?_
    unfold filled
    by_cases h' : (j 0).val < 1024 * t.val
    · exact (if_pos h').trans (if_pos (show (j 0).val < 1024 * (t.val + 1) by omega)).symm
    · exact (if_neg h').trans (if_neg (show ¬ (j 0).val < 1024 * (t.val + 1) by omega)).symm

/-- Before the last point the scores are what was found, the bands of the points so far written. -/
theorem scoresUpTo_eq (c : Dev nD) (X : Vec F S4096x81 .f32) (n : ℕ) (h : n < cfg0.N) (hn : n < 3) :
    scoresUpTo m c X n h = filled m c X (n + 1) := by
  induction n with
  | zero =>
    refine (if_neg (fun hl => absurd ((isLast_iff _).mp hl) (Nat.ne_of_lt hn))).trans ?_
    refine Eq.trans (congrArg _ (funext fun j => ?_)) (putBand_filled m c X ⟨0, h⟩)
    exact (if_neg (Nat.not_lt_zero _)).symm
  | succ n ih =>
    refine (if_neg (fun hl => absurd ((isLast_iff _).mp hl) (Nat.ne_of_lt hn))).trans ?_
    rw [ih (Nat.lt_of_succ_lt h) (Nat.lt_of_succ_lt hn)]
    exact putBand_filled m c X ⟨n + 1, h⟩

/-- The last point is there. -/
theorem three_lt : 3 < cfg0.N := by rw [show cfg0.N = 4 from N_0]; omega

/-- After the last point the scores are the four bands, the first column replaced by the extremes: nothing of what the
    first point found is left. -/
theorem scoresUpTo_last (c : Dev nD) (X : Vec F S4096x81 .f32) :
    scoresUpTo m c X 3 three_lt
      = k0_pay5 (word (extremesUpTo m c 3 three_lt) 0) (word (extremesUpTo m c 3 three_lt) 1) (bands m c) := by
  show scoresAfter (grid0.coords ⟨3, three_lt⟩) (bandAt m c ⟨3, three_lt⟩) (extremesUpTo m c 3 three_lt)
    (scoresUpTo m c X 2 (Nat.lt_of_succ_lt three_lt)) = _
  unfold scoresAfter
  rw [if_pos ((isLast_iff ⟨3, three_lt⟩).mpr rfl)]
  refine congrArg (k0_pay5 _ _) ?_
  refine (congrArg _ (scoresUpTo_eq m c X 2 (Nat.lt_of_succ_lt three_lt) (by omega))).trans
    ((putBand_filled m c X ⟨3, three_lt⟩).trans (funext fun j => ?_))
  exact if_pos (show (j 0).val < 1024 * 4 from (j 0).isLt)

/-! ## The arrays after the run -/

/-- The block of boxes of point `t` is the `t`-th block of rows. -/
theorem index_8 : ∀ t : Fin cfg0.N, win0_8.index t = ![t.val, 0] :=
  (by decide +kernel : ∀ t : Fin grid0.N, win0_8.index t = ![t.val, 0])

/-- Every execution of the kernel ends with the scores at the four bands, their first column replaced, the boxes at the
    four blocks, the arguments unchanged and every counter at zero. -/
theorem run_arrays : θ_run defs (onTc (τ := τ) (main (F := F))) ⟨m, fun _ => 0, ρ⟩ (fun r =>
    (∀ c : Dev nD,
      r.2.mem ((c.tc : Thread nD τ).loc main_v3_0)
        = k0_pay5 (word (extremesUpTo m c 3 three_lt) 0) (word (extremesUpTo m c 3 three_lt) 1) (bands m c)
      ∧ r.2.mem ((c.tc : Thread nD τ).loc main_v3_1) = boxRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) := by
  refine (θ_run defs _ _).mono (fun r hr => ⟨fun c => ?_, hr.2⟩) (run_main m ρ)
  have h := hr.1
  refine ⟨?_, ?_,
    (Pipeline.RDat.FramePost.arr_in h c 0 rfl).trans ((A_eq m c 0).trans (V_main_arg0 m c)),
    (Pipeline.RDat.FramePost.arr_in h c 1 rfl).trans ((A_eq m c 1).trans (V_main_arg1 m c)),
    ((h c).2 main_arg2 (Pipeline.mem_restRefs_of main_arg2 (by decide) (by decide))).trans (V_main_arg2 m c),
    (Pipeline.RDat.FramePost.arr_in h c 3 rfl).trans ((A_eq m c 3).trans (V_main_arg3 m c)),
    ((h c).2 main_arg4 (Pipeline.mem_restRefs_of main_arg4 (by decide) (by decide))).trans (V_main_arg4 m c),
    (Pipeline.RDat.FramePost.arr_in h c 5 rfl).trans ((A_eq m c 5).trans (V_main_arg5 m c)),
    ((h c).2 main_arg6 (Pipeline.mem_restRefs_of main_arg6 (by decide) (by decide))).trans (V_main_arg6 m c)⟩
  · obtain ⟨X, hX, hj⟩ := RDat.ArrAt.emb_eq_of_wholeAt ((h c).1 7) (t₀ := ⟨3, three_lt⟩)
      (by decide +kernel : (win0_7).WholeAt ⟨3, three_lt⟩)
    obtain ⟨X₀, rfl⟩ : ∃ X₀ : Vec F S4096x81 .f32, X = scoresUpTo m c X₀ 3 three_lt :=
      Pipeline.Dat.toRRel_leaves (dats m 0 c) (w := 7) rfl hX
    rw [← scoresUpTo_last m c X₀]
    exact funext hj
  · obtain ⟨after, hL, hA⟩ := RDat.FramePost.exists_exact h c
    refine (hA 8).trans ?_
    refine Dat.arrAt_eq_of_covers _ 8 _ (by decide +kernel) fun t hf y => ?_
    have hy : after 8 t = boxesAt m c t := by
      obtain ⟨Y, _, hX⟩ := hL 8 t hf
      rw [Dat.toRRel_after_of_eq_false _ (w := 8) rfl] at hX
      exact Eq.trans hX (after_8 m c t)
    blk_simp
    refine (congrFun hy y).trans ?_
    have h0 : ((win0_8.blk t).view.emb y 0 : ℕ) = t.val * 1024 + (y 0).val := by blk_simp [index_8 t]
    have h1 : ((win0_8.blk t).view.emb y 1 : ℕ) = (y 1).val := by blk_simp [index_8 t]
    have hy0 : (y 0).val < 1024 := (y 0).isLt
    unfold boxRows
    rw [show pointOf ((win0_8.blk t).view.emb y 0) = t from Fin.ext (show ((win0_8.blk t).view.emb y 0).val / 1024 = t.val by omega)]
    refine congrArg (boxesAt m c t) (funext fun a => Fin.ext ?_)
    match a with
    | ⟨0, _⟩ =>
      show (y 0).val = ((win0_8.blk t).view.emb y 0).val % 1024
      omega
    | ⟨1, _⟩ => exact h1.symm

end Cert.Proof.Body

end
-- ==== Proof.RefRun.lean ====
/-
  The run of the reference program `Cert.ReferenceIdeal`: forty host operations over one device, no kernel.  Its two
  results are stated as composed terms of the seven arguments, one definition per quantity of the head:

  * `norm x`            the rows' norms, `sqrt (∑ x²)`;
  * `scaled x`          the rows over `max (norm, 1e-12)`;
  * `box x W b`         `x · W + b`, four columns, and `boxTiled` its 81 copies side by side;
  * `orig x W b`        `x · W + b`, eighty-one columns;
  * `cls x W b`         `scaled x · W + b`, eighty columns, with `least` and `greatest` its extreme values;
  * `isFirst s`         whether a row's first greatest column is column 0;
  * `scores …`          the column of extremes chosen by `isFirst`, beside `cls`.

  `run` says that every execution terminates with the results at `scores` and `boxTiled`, the arguments unchanged and
  every counter at zero.
-/
module

public import proofs.«01_k».proof.Proof.Gen.ReferenceIdeal
public import Idealize.ShloMosaic.Lib.Tactic
public import Idealize.ShloMosaic.Lib.Claim
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.SL.Sem

variable {F : FTy → Type} [FloatOps F]

/-- The norm of each row: the root of the sum of its squares. -/
def norm (x : FVec F S4096x1024 .f32) : FVec F S4096x1 .f32 :=
  Host.sqrt (broadcastInDim S4096x1 ![0] bcast_S4096_S4096x1_0 (Host.reduceAdd (mulf x x) (constant S_ .f32 0x00000000#32)
    reducesTo_S4096x1024_S4096_d1 h_S_))

/-- Each row over its norm, the norm held above `1e-12`. -/
def scaled (x : FVec F S4096x1024 .f32) : FVec F S4096x1024 .f32 :=
  Host.divf x (broadcastInDim S4096x1024 ![0, 1] bcast_S4096x1_S4096x1024_0_1 (maximumf (norm x)
    (broadcastInDim S4096x1 ![] bcast_S_S4096x1 (constant S_ .f32 0x2B8CBCCC#32))))

/-- The box regression: `x · W + b`, four columns. -/
def box (x : FVec F S4096x1024 .f32) (W : FVec F S1024x4 .f32) (b : FVec F S4 .f32) : FVec F S4096x4 .f32 :=
  addf (Host.dotGeneral dot_S4096x1024_S1024x4_S4096x4_1_0_0_1_n_n none x W)
    (broadcastInDim S4096x4 ![0, 1] bcast_S1x4_S4096x4_0_1 (broadcastInDim S1x4 ![1] bcast_S4_S1x4_1 b))

/-- The box regression, its four columns repeated for each of the eighty-one classes. -/
def boxTiled (x : FVec F S4096x1024 .f32) (W : FVec F S1024x4 .f32) (b : FVec F S4 .f32) : FVec F S4096x324 .f32 :=
  shapeCast S4096x324 (broadcastInDim S1x4096x81x4 ![0, 1, 2, 3] bcast_S1x4096x1x4_S1x4096x81x4_0_1_2_3
    (shapeCast S1x4096x1x4 (box x W b) shapeCasts_S4096x4_S1x4096x1x4))
    shapeCasts_S1x4096x81x4_S4096x324

/-- The second scores: `x · W + b`, eighty-one columns. -/
def orig (x : FVec F S4096x1024 .f32) (W : FVec F S1024x81 .f32) (b : FVec F S81 .f32) : FVec F S4096x81 .f32 :=
  addf (Host.dotGeneral dot_S4096x1024_S1024x81_S4096x81_1_0_0_1_n_n none x W)
    (broadcastInDim S4096x81 ![0, 1] bcast_S1x81_S4096x81_0_1 (broadcastInDim S1x81 ![1] bcast_S81_S1x81_1 b))

/-- The class scores: the scaled rows times `W`, plus `b`, eighty columns. -/
def cls (x : FVec F S4096x1024 .f32) (W : FVec F S1024x80 .f32) (b : FVec F S80 .f32) : FVec F S4096x80 .f32 :=
  addf (Host.dotGeneral dot_S4096x1024_S1024x80_S4096x80_1_0_0_1_n_n none (scaled x) W)
    (broadcastInDim S4096x80 ![0, 1] bcast_S1x80_S4096x80_0_1 (broadcastInDim S1x80 ![1] bcast_S80_S1x80_1 b))

/-- The least value of an array of class scores. -/
def least (s : FVec F S4096x80 .f32) : FVec F S_ .f32 :=
  Host.reduce FloatOps.minimumf s (constant S_ .f32 0x7F800000#32) reducesTo_S4096x80_S_d0_1 h_S_

/-- The greatest value of an array of class scores. -/
def greatest (s : FVec F S4096x80 .f32) : FVec F S_ .f32 :=
  Host.reduce FloatOps.maximumf s (constant S_ .f32 0xFF800000#32) reducesTo_S4096x80_S_d0_1 h_S_

/-- Each row's arg-max: the column of its greatest value, the first of them. -/
def argmax (s : FVec F S4096x81 .f32) : IVec S4096 32 :=
  fun j => (Host.argReduce reducer_argmax_f32_i32 s (iotaInDim S4096x81 32 1) (constant S_ .f32 0xFF800000#32)
    (constantI S_ 32 0#32) reducesTo_S4096x81_S4096_d1 h_S_ j).2

/-- Whether each row's arg-max is column 0. -/
def isFirst (s : FVec F S4096x81 .f32) : IVec S4096 1 :=
  cmpi .eq (argmax s) (broadcastInDim S4096 ![] bcast_S_S4096 (constantI S_ 32 0#32))

/-- The scores: the class scores, and before them the greatest of all of them in the rows whose second score is
    greatest at column 0, the least in the others. -/
def scores (s : FVec F S4096x80 .f32) (s₂ : FVec F S4096x81 .f32) : FVec F S4096x81 .f32 :=
  concatenate S4096x81 1 [⟨S4096x1, broadcastInDim S4096x1 ![0] bcast_S4096_S4096x1_0
    (select (isFirst s₂) (broadcastInDim S4096 ![] bcast_S_S4096 (greatest s))
      (broadcastInDim S4096 ![] bcast_S_S4096 (least s)))⟩, ⟨S4096x80, s⟩]
    concatenates_S4096x1_S4096x80_S4096x81_d1

/-- Every execution of the reference terminates, its results at `scores` and `boxTiled`, its arguments unchanged and
    every counter at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c.tc : Thread nD τ).loc main_v27)
          = scores (cls (m ((c.tc : Thread nD τ).loc main_arg0)) (m ((c.tc : Thread nD τ).loc main_arg5)) (m ((c.tc : Thread nD τ).loc main_arg6)))
              (orig (m ((c.tc : Thread nD τ).loc main_arg0)) (m ((c.tc : Thread nD τ).loc main_arg3)) (m ((c.tc : Thread nD τ).loc main_arg4)))
        ∧ r.2.mem ((c.tc : Thread nD τ).loc main_v11)
          = boxTiled (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) := by
  hlo_run
  · intro c
    refine ⟨congrArg₂ (fun (a : FVec F S4096x1 .f32) (b : FVec F S4096x80 .f32) => concatenate S4096x81 1
      [⟨S4096x1, a⟩, ⟨S4096x80, b⟩] concatenates_S4096x1_S4096x80_S4096x81_d1) ?_ ?_, ?_,
      trivial, trivial, trivial, trivial, trivial, trivial, trivial⟩
    · after_results
      simp only [StableHlo.TRef.ofBuf_toBuf]
      simp -implicitDefEqProofs only [StableHlo.TRef.toBuf, StableHlo.TRef.ofBuf, cast_eq]
      rfl
    · after_results_simp
      simp -implicitDefEqProofs only [StableHlo.TRef.toBuf, StableHlo.TRef.ofBuf, cast_eq]
      rfl
    · rfl
  · exact sem_eq_zero_of_no_sems rfl _

end Cert.Proof.Ref

end
-- ==== Proof.Rows.lean ====
/-
One block against the whole: what a grid point computes of its 1024 rows is what the reference computes of these rows.
-/
module

public import proofs.«01_k».proof.Proof.Arrays
public import proofs.«01_k».proof.Proof.RefRun

@[expose] public section

set_option maxRecDepth 16384

noncomputable section

namespace Cert.Proof.Body

open Cert.KernelIdeal Cert.KernelIdeal.Gen
open Idealize.ShloMosaic Idealize.ShloMosaic.TcCoe Idealize.SL.Sem

variable (m : (ℓ : Loc nD τ sig) → Buf (Elt Ideal) ℓ)

/-- The windows' block indices: the rows' block moves with the point, the others stay. -/
theorem index_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Row `r` of point `t`'s block as a row of the array. -/
def rowOf (t : Fin cfg0.N) (r : Fin 1024) : Fin 4096 :=
  ⟨t.val * 1024 + r.val, by have : t.val < 4 := Nat.lt_of_lt_of_eq t.isLt N_0; omega⟩

/-- Every row of the array is a row of some point's block. -/
theorem rowOf_pointOf (r : Fin 4096) : rowOf (pointOf r) (rowIn r) = r :=
  Fin.ext (show r.val / 1024 * 1024 + r.val % 1024 = r.val by omega)

/-- The class scores of point `t`'s block are those of its rows. -/
theorem cls_row (c : Dev nD) (t : Fin cfg0.N) (r : Fin 1024) (k : Fin 80) :
    clsAt m c t (ix2 r k) = Ref.cls (F := Ideal) (m ((c.tc : Thread nD τ).loc main_arg0)) (m ((c.tc : Thread nD τ).loc main_arg5))
      (m ((c.tc : Thread nD τ).loc main_arg6)) (ix2 (rowOf t r) k) := by
  unfold clsAt
  pointwise [k0_pay7, Ref.cls, Ref.scaled, Ref.norm]
  blk_point [iblk, V, index_in t, rowOf]

/-- The second scores of point `t`'s block are those of its rows. -/
theorem orig_row (c : Dev nD) (t : Fin cfg0.N) (r : Fin 1024) (k : Fin 81) :
    k0_pay6 (iblk m c 0 t) (iblk m c 3 t) (iblk m c 4 t) (ix2 r k) = Ref.orig (F := Ideal) (m ((c.tc : Thread nD τ).loc main_arg0)) (m ((c.tc : Thread nD τ).loc main_arg3))
      (m ((c.tc : Thread nD τ).loc main_arg4)) (ix2 (rowOf t r) k) := by
  pointwise [k0_pay6, Ref.orig]
  blk_point [iblk, V, index_in t, rowOf]

/-- The box coordinates of point `t`'s block are those of its rows. -/
theorem box_row (c : Dev nD) (t : Fin cfg0.N) (r : Fin 1024) (k : Fin 4) :
    k0_pay8 (iblk m c 0 t) (iblk m c 1 t) (iblk m c 2 t) (ix2 r k) = Ref.box (F := Ideal) (m ((c.tc : Thread nD τ).loc main_arg0)) (m ((c.tc : Thread nD τ).loc main_arg1))
      (m ((c.tc : Thread nD τ).loc main_arg2)) (ix2 (rowOf t r) k) := by
  pointwise [k0_pay8, Ref.box]
  blk_point [iblk, V, index_in t, rowOf]

end Cert.Proof.Body

end
-- ==== Proof.Boxes.lean ====
/-
The boxes. The kernel gathers column `k mod 4` of a row's four box coordinates at each of 324 columns `k`, from three
registers of 128 lanes; the reference repeats the four coordinates eighty-one times. Both are read at an index here.
-/
module

public import proofs.«01_k».proof.Proof.Rows

@[expose] public section

set_option maxRecDepth 16384

noncomputable section

namespace Cert.Proof.Body

open Cert.KernelIdeal Cert.KernelIdeal.Gen
open Idealize.ShloMosaic Idealize.ShloMosaic.TcCoe Idealize.SL.Sem

/-! ## The words of the gather's index -/

/-- The divisor of the remainder is four, being no zero. -/
theorem divisor : Scalar.select (Scalar.cmpi .eq 4#32 0#32) 1#32 4#32 = 4#32 := by decide

/-- The word remainder by four of a column number. -/
theorem remainder (n : ℕ) (h : n < 324) : IntOp.remsi .vector (BitVec.ofNat 32 n) 4#32 = BitVec.ofNat 32 (n % 4) :=
  (by decide +kernel : ∀ n : Fin 324, IntOp.remsi .vector (BitVec.ofNat 32 n.val) 4#32 = BitVec.ofNat 32 (n.val % 4)) ⟨n, h⟩

/-- A remainder below four has the divisor's sign: nothing is added to it. -/
theorem unsigned (p : ℕ) (h : p < 4) :
    Scalar.select (IntOp.andi (IntOp.xori (IntOp.cmpi .slt (BitVec.ofNat 32 p) 0#32) (Scalar.cmpi .slt 4#32 0#32))
      (IntOp.cmpi .ne (BitVec.ofNat 32 p) 0#32)) (IntOp.addi (BitVec.ofNat 32 p) 4#32) (BitVec.ofNat 32 p)
      = BitVec.ofNat 32 p :=
  (by decide +kernel : ∀ p : Fin 4, Scalar.select (IntOp.andi (IntOp.xori (IntOp.cmpi .slt (BitVec.ofNat 32 p.val) 0#32)
    (Scalar.cmpi .slt 4#32 0#32)) (IntOp.cmpi .ne (BitVec.ofNat 32 p.val) 0#32)) (IntOp.addi (BitVec.ofNat 32 p.val) 4#32)
      (BitVec.ofNat 32 p.val) = BitVec.ofNat 32 p.val) ⟨p, h⟩

/-- A lane number below four is not negative: it is not counted from the register's end. -/
theorem unwrapped (p : ℕ) (h : p < 4) :
    Scalar.select (IntOp.cmpi .slt (BitVec.ofNat 32 p) 0#32) (IntOp.addi (BitVec.ofNat 32 p) 128#32) (BitVec.ofNat 32 p)
      = BitVec.ofNat 32 p :=
  (by decide +kernel : ∀ p : Fin 4, Scalar.select (IntOp.cmpi .slt (BitVec.ofNat 32 p.val) 0#32)
    (IntOp.addi (BitVec.ofNat 32 p.val) 128#32) (BitVec.ofNat 32 p.val) = BitVec.ofNat 32 p.val) ⟨p, h⟩

/-- The lane that a word below four names. -/
theorem lane (p : ℕ) (h : p < 4) : (BitVec.ofNat 32 p).toNat % 128 = p :=
  (by decide +kernel : ∀ p : Fin 4, (BitVec.ofNat 32 p.val).toNat % 128 = p.val) ⟨p, h⟩

/-! ## The gather and the repetition -/

/-- Column `k` of the gathered boxes is column `k mod 4` of the four coordinates. -/
theorem gathered (y : FVec Ideal S1024x4 .f32) (r : Fin 1024) (k : Fin 324) :
    k0_pay12 y (Scalar.select (Scalar.cmpi .eq 4#32 0#32) 1#32 4#32) k0_pay9 k0_pay10 k0_pay11 (ix2 r k)
      = y (ix2 r ⟨k.val % 4, by omega⟩) := by
  have hk : k.val < 324 := k.isLt
  have hp : ∀ n : ℕ, n % 4 < 4 := fun n => by omega
  pointwise [k0_pay12, k0_pay9, k0_pay10, k0_pay11]
  simp only [divisor]
  simp (disch := omega) only [remainder, unsigned, unwrapped, lane, hp, if_true]
  split
  · rfl
  · split
    · exact congrArg y (congrArg (ix2 r) (Fin.ext (by show (128 + (k.val - 128)) % 4 = k.val % 4; omega)))
    · exact congrArg y (congrArg (ix2 r) (Fin.ext (by show (196 + (60 + (k.val - 128 - 128))) % 4 = k.val % 4; omega)))

/-- Column `k` of the repeated boxes is column `k mod 4` of the four coordinates. -/
theorem repeated (x : FVec Ideal S4096x1024 .f32) (W : FVec Ideal S1024x4 .f32) (b : FVec Ideal S4 .f32) (r : Fin 4096)
    (k : Fin 324) : Ref.boxTiled (F := Ideal) x W b (ix2 r k) = Ref.box x W b (ix2 r ⟨k.val % 4, by omega⟩) := by
  pointwise [Ref.boxTiled]

variable (m : (ℓ : Loc nD τ sig) → Buf (Elt Ideal) ℓ)

/-- The boxes that the kernel leaves are those of the reference. -/
theorem boxRows_eq (c : Dev nD) :
    boxRows m c = Ref.boxTiled (F := Ideal) (m ((c.tc : Thread nD τ).loc main_arg0)) (m ((c.tc : Thread nD τ).loc main_arg1))
      (m ((c.tc : Thread nD τ).loc main_arg2)) := by
  funext j
  idx_vars j
  refine (gathered _ (rowIn j0) j1).trans ?_
  refine (box_row m c (pointOf j0) (rowIn j0) _).trans ?_
  rw [rowOf_pointOf]
  exact (repeated _ _ _ j0 j1).symm

end Cert.Proof.Body

end
-- ==== Proof.Extremes.lean ====
/-
The least and the greatest class score. The kernel takes each block's and the running extreme; the reference takes the
whole array's. A bound is below the one exactly when it is below the other.
-/
module

public import proofs.«01_k».proof.Proof.Rows

@[expose] public section

set_option maxRecDepth 16384

noncomputable section

namespace Cert.Proof.Body

open Cert.KernelIdeal Cert.KernelIdeal.Gen
open Idealize.ShloMosaic Idealize.ShloMosaic.TcCoe Idealize.SL.Sem

/-! ## One block, and the whole array -/

/-- A bound below a block's least score is one below all its scores (and the value the fold starts from). -/
theorem le_blockLeast (y : FVec Ideal S1024x80 .f32) (b : EReal) :
    b ≤ (k0_pay1 y : EReal) ↔ b ≤ Ideal.ofBits .f32 0x7F800000#32 ∧ ∀ (r : Fin 1024) (k : Fin 80), b ≤ (y (ix2 r k) : EReal) := by
  pointwise [k0_pay1]
  rw [Finset.le_fold_min]
  simp only [Finset.mem_univ, true_implies, Prod.forall]

/-- A bound above a block's greatest score is one above all its scores. -/
theorem blockGreatest_le (y : FVec Ideal S1024x80 .f32) (b : EReal) :
    (k0_pay2 y : EReal) ≤ b ↔ Ideal.ofBits .f32 0xFF800000#32 ≤ b ∧ ∀ (r : Fin 1024) (k : Fin 80), (y (ix2 r k) : EReal) ≤ b := by
  pointwise [k0_pay2]
  rw [Finset.fold_max_le]
  simp only [Finset.mem_univ, true_implies, Prod.forall]

/-- A bound below the array's least score is one below all its scores. -/
theorem le_least (s : FVec Ideal Cert.ReferenceIdeal.S4096x80 .f32) (b : EReal) :
    b ≤ (Ref.least s ix0 : EReal) ↔ b ≤ Ideal.ofBits .f32 0x7F800000#32 ∧ ∀ (r : Fin 4096) (k : Fin 80), b ≤ (s (ix2 r k) : EReal) := by
  pointwise [Ref.least]
  rw [Finset.le_fold_min]
  simp only [Finset.mem_univ, true_implies, Prod.forall]

/-- A bound above the array's greatest score is one above all its scores. -/
theorem greatest_le (s : FVec Ideal Cert.ReferenceIdeal.S4096x80 .f32) (b : EReal) :
    (Ref.greatest s ix0 : EReal) ≤ b ↔ Ideal.ofBits .f32 0xFF800000#32 ≤ b ∧ ∀ (r : Fin 4096) (k : Fin 80), (s (ix2 r k) : EReal) ≤ b := by
  pointwise [Ref.greatest]
  rw [Finset.fold_max_le]
  simp only [Finset.mem_univ, true_implies, Prod.forall]

/-! ## The running extremes -/

variable (m : (ℓ : Loc nD τ sig) → Buf (Elt Ideal) ℓ)

/-- A bound below the running least value after point `n` is one below all the scores of the points up to `n`. -/
theorem le_runningLeast (c : Dev nD) (b : EReal) (n : ℕ) (h : n < cfg0.N) :
    b ≤ (word (extremesUpTo m c n h) 0 : EReal)
      ↔ b ≤ Ideal.ofBits .f32 0x7F800000#32 ∧ ∀ t : Fin cfg0.N, t.val ≤ n → ∀ (r : Fin 1024) (k : Fin 80), b ≤ (clsAt m c t (ix2 r k) : EReal) := by
  induction n with
  | zero =>
    refine (le_blockLeast (clsAt m c ⟨0, h⟩) b).trans (and_congr_right fun _ => ⟨fun hb t ht => ?_, fun hb => hb ⟨0, h⟩ le_rfl⟩)
    rw [show t = ⟨0, h⟩ from Fin.ext (Nat.le_zero.mp ht)]
    exact hb
  | succ n ih =>
    have hn := Nat.lt_of_succ_lt h
    refine (show _ ↔ b ≤ (word (extremesUpTo m c n hn) 0 : EReal) ∧ b ≤ (k0_pay1 (clsAt m c ⟨n + 1, h⟩) : EReal) from
      le_min_iff).trans ?_
    rw [ih hn, le_blockLeast]
    constructor
    · rintro ⟨⟨h₀, h₁⟩, -, h₂⟩
      refine ⟨h₀, fun t ht => ?_⟩
      rcases Nat.lt_or_eq_of_le ht with ht | ht
      · exact h₁ t (Nat.lt_succ_iff.mp ht)
      · rw [show t = ⟨n + 1, h⟩ from Fin.ext ht]; exact h₂
    · rintro ⟨h₀, h₁⟩
      exact ⟨⟨h₀, fun t ht => h₁ t (Nat.le_succ_of_le ht)⟩, h₀, h₁ ⟨n + 1, h⟩ le_rfl⟩

/-- A bound above the running greatest value after point `n` is one above all the scores of the points up to `n`. -/
theorem runningGreatest_le (c : Dev nD) (b : EReal) (n : ℕ) (h : n < cfg0.N) :
    (word (extremesUpTo m c n h) 1 : EReal) ≤ b
      ↔ Ideal.ofBits .f32 0xFF800000#32 ≤ b ∧ ∀ t : Fin cfg0.N, t.val ≤ n → ∀ (r : Fin 1024) (k : Fin 80), (clsAt m c t (ix2 r k) : EReal) ≤ b := by
  induction n with
  | zero =>
    refine (blockGreatest_le (clsAt m c ⟨0, h⟩) b).trans (and_congr_right fun _ => ⟨fun hb t ht => ?_, fun hb => hb ⟨0, h⟩ le_rfl⟩)
    rw [show t = ⟨0, h⟩ from Fin.ext (Nat.le_zero.mp ht)]
    exact hb
  | succ n ih =>
    have hn := Nat.lt_of_succ_lt h
    refine (show _ ↔ (word (extremesUpTo m c n hn) 1 : EReal) ≤ b ∧ (k0_pay2 (clsAt m c ⟨n + 1, h⟩) : EReal) ≤ b from
      max_le_iff).trans ?_
    rw [ih hn, blockGreatest_le]
    constructor
    · rintro ⟨⟨h₀, h₁⟩, -, h₂⟩
      refine ⟨h₀, fun t ht => ?_⟩
      rcases Nat.lt_or_eq_of_le ht with ht | ht
      · exact h₁ t (Nat.lt_succ_iff.mp ht)
      · rw [show t = ⟨n + 1, h⟩ from Fin.ext ht]; exact h₂
    · rintro ⟨h₀, h₁⟩
      exact ⟨⟨h₀, fun t ht => h₁ t (Nat.le_succ_of_le ht)⟩, h₀, h₁ ⟨n + 1, h⟩ le_rfl⟩

/-! ## The extremes after the last point -/

/-- The class scores of the whole array, as the reference states them of the arguments. -/
abbrev clsAll (c : Dev nD) : FVec Ideal Cert.ReferenceIdeal.S4096x80 .f32 :=
  Ref.cls (F := Ideal) (m ((c.tc : Thread nD τ).loc main_arg0)) (m ((c.tc : Thread nD τ).loc main_arg5)) (m ((c.tc : Thread nD τ).loc main_arg6))

/-- A property holds of all the points' scores exactly when it holds of all the array's. -/
theorem forall_rows (c : Dev nD) (P : EReal → Prop) :
    (∀ t : Fin cfg0.N, t.val ≤ 3 → ∀ (r : Fin 1024) (k : Fin 80), P (clsAt m c t (ix2 r k)))
      ↔ ∀ (r : Fin 4096) (k : Fin 80), P (clsAll m c (ix2 r k)) := by
  constructor
  · intro h r k
    have hr : r.val / 1024 ≤ 3 := by omega
    have := h (pointOf r) hr (rowIn r) k
    rwa [cls_row, rowOf_pointOf] at this
  · intro h t _ r k
    rw [cls_row]
    exact h _ _

/-- After the last point the running least value is the least class score. -/
theorem least_eq (c : Dev nD) : (word (extremesUpTo m c 3 three_lt) 0 : EReal) = Ref.least (clsAll m c) ix0 :=
  eq_of_forall_le_iff fun b => (le_runningLeast m c b 3 three_lt).trans
    ((and_congr_right fun _ => forall_rows m c fun v => b ≤ v).trans (le_least (clsAll m c) b).symm)

/-- After the last point the running greatest value is the greatest class score. -/
theorem greatest_eq (c : Dev nD) : (word (extremesUpTo m c 3 three_lt) 1 : EReal) = Ref.greatest (clsAll m c) ix0 :=
  eq_of_forall_ge_iff fun b => (runningGreatest_le m c b 3 three_lt).trans
    ((and_congr_right fun _ => forall_rows m c fun v => v ≤ b).trans (greatest_le (clsAll m c) b).symm)

end Cert.Proof.Body

end
-- ==== Proof.Argmax.lean ====
/-
The reference's arg-max of a row. Its fold takes the greater value, and of two equal values the one of the smaller column
number; so the arg-max is column 0 exactly when no column of the row is above column 0.
-/
module

public import proofs.«01_k».proof.Proof.RefRun
public import Idealize.ShloMosaic.Lib.Pipeline.ValueKit

@[expose] public section

set_option maxRecDepth 16384

noncomputable section

namespace Cert.Proof.Ref

open Cert.ReferenceIdeal Cert.ReferenceIdeal.Gen
open Idealize.ShloMosaic Idealize.ShloMosaic.TcCoe Idealize.SL.Sem

/-- One step of the arg-max keeps the first pair if its value is greater or if the values are equal and its column number
    is smaller, and the second pair otherwise. -/
theorem reducer_eq (a b : EReal × BitVec 32) :
    reducer_argmax_f32_i32 (F := Ideal) a b
      = if b.1 < a.1 ∨ (a.1 = b.1 ∧ a.2.toInt < b.2.toInt) then a else b := by
  obtain ⟨a₁, a₂⟩ := a
  obtain ⟨b₁, b₂⟩ := b
  unfold reducer_argmax_f32_i32
  simp only [Ideal.cmpf_def, Ideal.cmp, IntOp.ori, IntOp.andi, IntOp.cmpi, Scalar.select]
  by_cases h₁ : b₁ < a₁ <;> by_cases h₂ : a₁ = b₁ <;> by_cases h₃ : a₂.toInt < b₂.toInt <;>
    simp [h₁, h₂, h₃, BitVec.slt]

/-- `p` is one of the pairs `a` and `b`, has a value no less than theirs, and a column number no greater than that of
    either whose value it has. -/
theorem reducer_spec (a b : EReal × BitVec 32) (p : EReal × BitVec 32) (hp : p = reducer_argmax_f32_i32 (F := Ideal) a b) :
    (p = a ∨ p = b) ∧ (a.1 ≤ p.1 ∧ b.1 ≤ p.1) ∧ (a.1 = p.1 → p.2.toInt ≤ a.2.toInt) ∧ (b.1 = p.1 → p.2.toInt ≤ b.2.toInt) := by
  rw [reducer_eq] at hp
  by_cases h : b.1 < a.1 ∨ (a.1 = b.1 ∧ a.2.toInt < b.2.toInt)
  · rw [if_pos h] at hp
    subst hp
    rcases h with h | ⟨h, h'⟩
    · exact ⟨.inl rfl, ⟨le_rfl, h.le⟩, fun _ => le_rfl, fun e => absurd e h.ne⟩
    · exact ⟨.inl rfl, ⟨le_rfl, h.ge⟩, fun _ => le_rfl, fun _ => h'.le⟩
  · rw [if_neg h] at hp
    subst hp
    push Not at h
    exact ⟨.inr rfl, ⟨h.1, le_rfl⟩, fun e => h.2 e, fun _ => le_rfl⟩

/-- The fold of the arg-max over a list of pairs, from `a`, is `a` or one of the pairs, has a value no less than any, and a
    column number no greater than that of any pair of the list whose value it has. -/
theorem foldl_spec (l : List (EReal × BitVec 32)) : ∀ (a p : EReal × BitVec 32),
    p = l.foldl (reducer_argmax_f32_i32 (F := Ideal)) a →
    (p = a ∨ p ∈ l) ∧ (a.1 ≤ p.1 ∧ ∀ q ∈ l, q.1 ≤ p.1) ∧ (a.1 = p.1 → p.2.toInt ≤ a.2.toInt)
      ∧ (∀ q ∈ l, q.1 = p.1 → p.2.toInt ≤ q.2.toInt) := by
  induction l with
  | nil =>
    rintro a p rfl
    exact ⟨.inl rfl, ⟨le_rfl, fun q hq => absurd hq List.not_mem_nil⟩, fun _ => le_rfl, fun q hq => absurd hq List.not_mem_nil⟩
  | cons b l ih =>
    intro a p hp
    obtain ⟨hm, ⟨hge, hall⟩, hcol, hcols⟩ := ih (reducer_argmax_f32_i32 (F := Ideal) a b) p hp
    obtain ⟨hm', ⟨ha, hb⟩, hca, hcb⟩ := reducer_spec a b _ rfl
    refine ⟨?_, ⟨ha.trans hge, ?_⟩, ?_, ?_⟩
    · rcases hm with hm | hm
      · rcases hm' with h | h
        · exact .inl (hm.trans h)
        · exact .inr (by rw [hm.trans h]; exact List.mem_cons_self)
      · exact .inr (List.mem_cons_of_mem _ hm)
    · intro q hq
      rcases List.mem_cons.mp hq with rfl | hq
      · exact hb.trans hge
      · exact hall q hq
    · intro e
      have e' := le_antisymm hge (e ▸ ha)
      exact (hcol e').trans (hca (e.trans e'.symm))
    · intro q hq e
      rcases List.mem_cons.mp hq with rfl | hq
      · have e' := le_antisymm hge (e ▸ hb)
        exact (hcol e').trans (hcb (e.trans e'.symm))
      · exact hcols q hq e

/-- The value the arg-max starts from is below every value. -/
theorem start_bot : (FloatOps.ofBits .f32 0xFF800000#32 : Ideal .f32) = (⊥ : EReal) := by
  show Ideal.ofBits .f32 0xFF800000#32 = ⊥
  simp [Ideal.ofBits, Ideal.ieee]

/-- The pairs of row `r`: its value and the column number, at each column. -/
theorem mem_row (s : FVec Ideal S4096x81 .f32) (r : Fin 4096) (q : EReal × BitVec 32) :
    q ∈ Host.argReduceFiber s (iotaInDim S4096x81 32 1) reducesTo_S4096x81_S4096_d1 (ix1 r)
      ↔ ∃ k : Fin 81, q = (s (ix2 r k), BitVec.ofNat 32 k.val) := by
  unfold Host.argReduceFiber
  simp only [List.mem_map, List.mem_filter, List.mem_finRange, true_and, decide_eq_true_eq]
  constructor
  · rintro ⟨n, hn, rfl⟩
    generalize S4096x81.rowMajor.symm n = i at hn ⊢
    have h0 : i 0 = r := Fin.ext (((Shape.ReducesTo.drop_apply_val_of_eq reducesTo_S4096x81_S4096_d1 i 0 0).symm.trans
      (congrArg Fin.val (congrFun hn 0))))
    have hi : i = ix2 r (i 1) := (eq_ix2 i).trans (congrArg (fun a => ix2 a (i 1)) h0)
    exact ⟨i 1, Prod.ext (congrArg s hi) rfl⟩
  · rintro ⟨k, rfl⟩
    refine ⟨S4096x81.rowMajor (ix2 r k), ?_, ?_⟩
    · rw [Equiv.symm_apply_apply]
      funext b
      obtain rfl : b = 0 := Subsingleton.elim (α := Fin 1) b 0
      exact Fin.ext (Shape.ReducesTo.drop_apply_val_of_eq reducesTo_S4096x81_S4096_d1 (ix2 r k) 0 0)
    · rw [Equiv.symm_apply_apply]; rfl

/-- The arg-max of row `r` is column 0 exactly when no column of the row is above it. -/
theorem argmax_eq_zero (s : FVec Ideal S4096x81 .f32) (r : Fin 4096) :
    argmax s (ix1 r) = 0#32 ↔ ∀ k : Fin 81, (s (ix2 r k) : EReal) ≤ s (ix2 r 0) := by
  have hcol : ∀ k : Fin 81, (BitVec.ofNat 32 k.val).toInt = (k.val : ℤ) := by decide +kernel
  unfold argmax
  rw [Ideal.argReduce_eq_reduce2, Host.reduce2_eq_foldl_fiber]
  obtain ⟨hm, ⟨hge, hall⟩, -, hcols⟩ := foldl_spec _ _ _
    (rfl : (Host.argReduceFiber s (iotaInDim S4096x81 32 1) reducesTo_S4096x81_S4096_d1 (ix1 r)).foldl
      (reducer_argmax_f32_i32 (F := Ideal)) ((⊥ : EReal), 0#32) = _)
  have hstart : ((constant S_ .f32 0xFF800000#32 : FVec Ideal S_ .f32) (Shape.Idx.first h_S_), constantI S_ 32 0#32 (Shape.Idx.first h_S_))
      = ((⊥ : EReal), 0#32) := Prod.ext start_bot rfl
  rw [hstart]
  generalize (Host.argReduceFiber s (iotaInDim S4096x81 32 1) reducesTo_S4096x81_S4096_d1 (ix1 r)).foldl
      (reducer_argmax_f32_i32 (F := Ideal)) ((⊥ : EReal), 0#32) = p at *
  have hle : ∀ k : Fin 81, (s (ix2 r k) : EReal) ≤ p.1 := fun k => hall _ ((mem_row s r _).mpr ⟨k, rfl⟩)
  rcases hm with rfl | hm
  · exact ⟨fun _ k => (hle k).trans bot_le, fun _ => rfl⟩
  · obtain ⟨k₀, rfl⟩ := (mem_row s r p).mp hm
    constructor
    · intro h k
      have : k₀ = 0 := Fin.ext (by
        have e := congrArg BitVec.toInt h
        rw [hcol] at e
        have : (0#32).toInt = 0 := rfl
        show k₀.val = 0
        omega)
      exact this ▸ hle k
    · intro h
      have e := hcols _ ((mem_row s r _).mpr ⟨0, rfl⟩) (le_antisymm (hle 0) (h k₀))
      rw [hcol, hcol] at e
      have : k₀ = 0 := Fin.ext (by
        have : ((0 : Fin 81).val : ℤ) = 0 := rfl
        show k₀.val = 0
        omega)
      rw [this]; rfl

end Cert.Proof.Ref

end
-- ==== Proof.Scores.lean ====
/-
The scores. The kernel marks a row with one or zero in column 0, by comparing the row's second score at column 0 with the
row's greatest, and at the last point puts the greatest or the least class score over the mark; the reference chooses by
the row's arg-max. The two choices agree, so the arrays are equal.
-/
module

public import proofs.«01_k».proof.Proof.Extremes
public import proofs.«01_k».proof.Proof.Argmax

@[expose] public section

set_option maxRecDepth 16384

noncomputable section

namespace Cert.Proof.Body

open Cert.KernelIdeal Cert.KernelIdeal.Gen
open Idealize.ShloMosaic Idealize.ShloMosaic.TcCoe Idealize.SL.Sem

/-- The mark of a truth value, one or zero, is above one half exactly when it is true. -/
theorem half_lt_mark (d : Bool) :
    Ideal.ofBits .f32 0x3F000000#32 < (FloatOps.sitofp (F := Ideal) .f32 ((BitVec.ofBool d).setWidth 32) : EReal) ↔ d = true := by
  have h : Ideal.ofBits .f32 0x3F000000#32 = ((1 / 2 : ℝ) : EReal) := by
    simp [Ideal.ofBits, Ideal.ieee, -EReal.coe_mul]; norm_num
  have hs : (FloatOps.sitofp (F := Ideal) .f32 ((BitVec.ofBool d).setWidth 32) : EReal)
      = ((((BitVec.ofBool d).setWidth 32).toInt : ℝ) : EReal) := rfl
  have hw : ((BitVec.ofBool d).setWidth 32).toInt = if d then 1 else 0 :=
    (by decide : ∀ d : Bool, ((BitVec.ofBool d).setWidth 32).toInt = if d then 1 else 0) d
  rw [h, hs, EReal.coe_lt_coe_iff, hw]
  cases d <;> norm_num

/-- A row's mark is above one half exactly when no column of its second scores is above column 0. -/
theorem half_lt_flag (s₂ : FVec Ideal S1024x81 .f32) (s : FVec Ideal S1024x80 .f32) (r : Fin 1024) :
    Ideal.ofBits .f32 0x3F000000#32 < (k0_pay13 s₂ s (ix2 r 0) : EReal)
      ↔ ∀ k : Fin 81, (s₂ (ix2 r k) : EReal) ≤ s₂ (ix2 r 0) := by
  pointwise [k0_pay13]
  rw [half_lt_mark, decide_eq_true_eq, Finset.fold_max_le]
  refine ⟨fun h k => h.2 k (Finset.mem_univ k), fun h => ⟨?_, fun k _ => h k⟩⟩
  exact Ref.start_bot.le.trans bot_le

/-- Past column 0 the band is the class scores, one column to the left. -/
theorem band_cls (s₂ : FVec Ideal S1024x81 .f32) (s : FVec Ideal S1024x80 .f32) (r : Fin 1024) (k : Fin 81) (h : ¬ k.val < 1) :
    k0_pay13 s₂ s (ix2 r k) = s (ix2 r ⟨k.val - 1, by omega⟩) := by
  pointwise [k0_pay13]
  rw [dif_neg h]

/-- The comparison of a word with zero is one exactly when it is zero. -/
theorem isZero_iff (w : BitVec 32) : (IntOp.cmpi .eq w 0#32 = 1#1) ↔ w = 0#32 := by
  show BitVec.ofBool (w == 0#32) = 1#1 ↔ _
  by_cases h : w = 0#32
  · simp [h]
  · simp [beq_eq_false_iff_ne.mpr h, h]

/-- The last point's store: the mark in column 0 replaced by one extreme or the other, the rest kept. -/
theorem replaced (w₀ w₁ : EReal) (X : FVec Ideal S4096x81 .f32) (r : Fin 4096) (k : Fin 81) :
    k0_pay5 (F := Ideal) w₀ w₁ X (ix2 r k)
      = if k.val < 1 then (if Ideal.ofBits .f32 0x3F000000#32 < (X (ix2 r k) : EReal) then w₁ else w₀) else X (ix2 r k) := by
  have hk : (BitVec.ofNat 32 k.val = 0#32) ↔ k.val < 1 :=
    (by decide +kernel : ∀ k : Fin 81, (BitVec.ofNat 32 k.val = 0#32) ↔ k.val < 1) k
  pointwise [k0_pay5]
  have hw : (IntOp.cmpi .eq (BitVec.ofNat 32 k.val) 0#32 = 1#1) ↔ k.val < 1 := (isZero_iff _).trans hk
  by_cases h : k.val < 1
  · rw [if_pos h]; exact if_pos (hw.mpr h)
  · rw [if_neg h]; exact if_neg (fun e => h (hw.mp e))

/-- The reference's scores: column 0 one extreme or the other by the row's arg-max, the rest the class scores, one column to
    the left. -/
theorem chosen (s : FVec Ideal Cert.ReferenceIdeal.S4096x80 .f32) (s₂ : FVec Ideal Cert.ReferenceIdeal.S4096x81 .f32)
    (r : Fin 4096) (k : Fin 81) :
    Ref.scores (F := Ideal) s s₂ (ix2 r k)
      = if h : k.val < 1 then (if Ref.argmax s₂ (ix1 r) = 0#32 then Ref.greatest s ix0 else Ref.least s ix0)
        else s (ix2 r ⟨k.val - 1, by omega⟩) := by
  pointwise [Ref.scores, Ref.isFirst]
  by_cases h : k.val < 1
  · rw [dif_pos h, dif_pos h]
    exact if_congr (isZero_iff _) rfl rfl
  · rw [dif_neg h, dif_neg h]

variable (m : (ℓ : Loc nD τ sig) → Buf (Elt Ideal) ℓ)

/-- The scores that the kernel leaves are those of the reference. -/
theorem scores_eq (c : Dev nD) :
    k0_pay5 (word (extremesUpTo m c 3 three_lt) 0) (word (extremesUpTo m c 3 three_lt) 1) (bands m c)
      = Ref.scores (F := Ideal) (clsAll m c) (Ref.orig (F := Ideal) (m ((c.tc : Thread nD τ).loc main_arg0))
          (m ((c.tc : Thread nD τ).loc main_arg3)) (m ((c.tc : Thread nD τ).loc main_arg4))) := by
  funext j
  idx_vars j
  refine (replaced _ _ (bands m c) j0 j1).trans (Eq.trans ?_ (chosen _ _ j0 j1).symm)
  by_cases h : j1.val < 1
  · obtain rfl : j1 = 0 := Fin.ext (Nat.lt_one_iff.mp h)
    rw [if_pos h, dif_pos h, least_eq, greatest_eq]
    have hflag : (Ideal.ofBits .f32 0x3F000000#32 < (bands m c (ix2 j0 0) : EReal)) ↔
        Ref.argmax (Ref.orig (F := Ideal) (m ((c.tc : Thread nD τ).loc main_arg0))
          (m ((c.tc : Thread nD τ).loc main_arg3)) (m ((c.tc : Thread nD τ).loc main_arg4))) (ix1 j0) = 0#32 := by
      refine (half_lt_flag _ _ (rowIn j0)).trans (Iff.trans ?_ (Ref.argmax_eq_zero _ j0).symm)
      have hrow : ∀ k : Fin 81, k0_pay6 (iblk m c 0 (pointOf j0)) (iblk m c 3 (pointOf j0)) (iblk m c 4 (pointOf j0)) (ix2 (rowIn j0) k)
          = Ref.orig (F := Ideal) (m ((c.tc : Thread nD τ).loc main_arg0)) (m ((c.tc : Thread nD τ).loc main_arg3))
              (m ((c.tc : Thread nD τ).loc main_arg4)) (ix2 j0 k) := fun k => by
        rw [orig_row, rowOf_pointOf]
      refine forall_congr' fun k => ?_
      rw [← hrow k, ← hrow 0]
      exact Iff.rfl
    simp only [hflag]
  · rw [if_neg h, dif_neg h]
    refine (band_cls _ _ (rowIn j0) j1 h).trans ?_
    refine (cls_row m c (pointOf j0) (rowIn j0) _).trans ?_
    rw [rowOf_pointOf]

end Cert.Proof.Body

end
-- ==== Proof.Same.lean ====
/-
The kernel and the idealized kernel are one program: no rule was applied, so their texts differ in nothing but their names.
What is proved of the idealized kernel over any reading of the floats so holds of the kernel at the machine's words.
-/
module

public import proofs.«01_k».proof.Defs
public import proofs.«01_k».proof.Proof.Gen.Kernel
public import proofs.«01_k».proof.Proof.Arrays

@[expose] public section

set_option maxRecDepth 65536
set_option maxHeartbeats 1000000

noncomputable section

namespace Cert.Proof.Same

open Idealize.ShloMosaic Idealize.SL.Sem

attribute [local instance] Cert.Kernel.Gen.facts Cert.KernelIdeal.Gen.facts

/-- The two programs' kernel bodies. -/
theorem bodies_eq : @Cert.Kernel.defs₀ Bits _ _ = @Cert.KernelIdeal.defs₀ Bits _ _ := by
  funext pr ℓ a
  match pr, ℓ, a with
  | .tc, 0, (t, s) => rfl
  | .scScalar _, ℓ, a => rfl
  | .scVector _ _, ℓ, a => rfl

/-- Their body tables, each pipeline's own labels among them. -/
theorem tables_eq : @Cert.Kernel.defs Bits _ _ = @Cert.KernelIdeal.defs Bits _ _ :=
  congrArg (Pipeline.defs (Cert.KernelIdeal.pcfgs (F := Bits))) bodies_eq

/-- Their host code. -/
theorem hosts_eq : Cert.Kernel.main (F := Bits) = Cert.KernelIdeal.main (F := Bits) := rfl

/-- So what holds at the end of every execution of the one is what holds at the end of every execution of the other. -/
theorem run_eq (s) (Q) :
    θ_run (Cert.Kernel.defs (F := Bits)) (onTc (τ := Cert.Kernel.τ) (Cert.Kernel.main (F := Bits))) s Q
      = θ_run (Cert.KernelIdeal.defs (F := Bits)) (onTc (τ := Cert.KernelIdeal.τ) (Cert.KernelIdeal.main (F := Bits))) s Q :=
  (congrArg (fun D => θ_run D (onTc (τ := Cert.Kernel.τ) (Cert.Kernel.main (F := Bits))) s Q) tables_eq).trans
    (congrArg (fun p => θ_run (Cert.KernelIdeal.defs (F := Bits)) (onTc (τ := Cert.KernelIdeal.τ) p) s Q) hosts_eq)

/-- Every execution of the kernel at the machine's words ends, its arguments unchanged and every counter at zero. -/
theorem frame_kernel : Cert.quiescent_Kernel := by
  intro m g _
  rw [run_eq]
  exact (θ_run _ _ _).mono (fun _ h => ⟨fun c => (h.1 c).2.2, h.2⟩) (Body.run_arrays (F := Bits) m g)

end Cert.Proof.Same

end
-- ==== Proof.lean ====
/-
The claim assembled: the kernel's frame at the machine's words, the idealized kernel's and the reference's frames over the
extended reals, and the equality of both results of the idealized kernel with those of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Boxes
public import proofs.«01_k».proof.Proof.Scores
public import proofs.«01_k».proof.Proof.Same
public import Idealize.ShloMosaic.Adequacy
public import Idealize.ShloMosaic.Init

@[expose] public section

noncomputable section

namespace Cert.Proof

open Idealize.ShloMosaic Idealize.SL.Sem Cert.Kernel

/-- Every execution of the idealized kernel ends, its arguments unchanged and every counter at zero. -/
theorem frame_kernelIdeal : Cert.quiescent_KernelIdeal := fun m g _ =>
  (θ_run _ _ _).mono (fun _ h => ⟨fun c => (h.1 c).2.2, h.2⟩) (Body.run_arrays m g)

/-- Every execution of the reference ends, its arguments unchanged and every counter at zero. -/
theorem frame_referenceIdeal : Cert.quiescent_ReferenceIdeal := fun m g _ =>
  (θ_run _ _ _).mono (fun _ h => ⟨fun c => (h.1 c).2.2, h.2⟩) (Ref.run m g)

/-- From equal arguments the idealized kernel and the reference end with equal scores and equal boxes. -/
theorem results_equal : Cert.algebraic_KernelIdeal_ReferenceIdeal := by
  intro m g m' g' _ hagree
  refine ⟨_, _, (θ_run _ _ _).mono (fun _ h c => h.1 c) (Body.run_arrays m g), (θ_run _ _ _).mono (fun r h c => ?_) (Ref.run m' g')⟩
  obtain ⟨h0, h1, hargs⟩ := h.1 c
  obtain ⟨a0, a1, a2, a3, a4, a5, a6⟩ := hagree c
  refine ⟨h0.trans ?_, h1.trans ?_, hargs⟩
  · rw [a0, a3, a4, a5, a6]; exact (Body.scores_eq m c).symm
  · rw [a0, a1, a2]; exact (Body.boxRows_eq m c).symm

theorem claim : Cert.Claim :=
  ⟨Cert.Kernel.Gen.facts, Cert.KernelIdeal.Gen.facts, Cert.ReferenceIdeal.Gen.facts,
    Same.frame_kernel, frame_kernelIdeal, frame_referenceIdeal, trivial, results_equal⟩

end Cert.Proof

end
